-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x4096 : Shape := ⟨3, ![6, 1024, 4096]⟩
abbrev S2048x14336 : Shape := ⟨2, ![2048, 14336]⟩
abbrev S32x14336 : Shape := ⟨2, ![32, 14336]⟩
abbrev S6144x4096 : Shape := ⟨2, ![6144, 4096]⟩
abbrev S6144x14336 : Shape := ⟨2, ![6144, 14336]⟩
abbrev S1024x4096 : Shape := ⟨2, ![1024, 4096]⟩
abbrev S2048x512 : Shape := ⟨2, ![2048, 512]⟩
abbrev S32x512 : Shape := ⟨2, ![32, 512]⟩
abbrev S1024x512 : Shape := ⟨2, ![1024, 512]⟩
abbrev S4096x512 : Shape := ⟨2, ![4096, 512]⟩
abbrev S32x128x512 : Shape := ⟨3, ![32, 128, 512]⟩
abbrev S32x1x512 : Shape := ⟨3, ![32, 1, 512]⟩
abbrev S6x1024x14336 : Shape := ⟨3, ![6, 1024, 14336]⟩

abbrev nBuf : Space → Nat
  | .hbm => 8
  | .vmem => 14
  | .smem => 0
  | _ => 0

abbrev bufTy : (tb : Table) → Fin (tcTables nBuf tb) → BufTy
  | .hbm, ⟨0, _⟩ => ⟨S6x1024x4096, .bf16⟩
  | .hbm, ⟨1, _⟩ => ⟨S2048x14336, .i8⟩
  | .hbm, ⟨2, _⟩ => ⟨S32x14336, .bf16⟩
  | .hbm, ⟨3, _⟩ => ⟨S2048x14336, .i8⟩
  | .hbm, ⟨4, _⟩ => ⟨S32x14336, .bf16⟩
  | .hbm, ⟨5, _⟩ => ⟨S6144x4096, .bf16⟩
  | .hbm, ⟨6, _⟩ => ⟨S6144x14336, .bf16⟩
  | .hbm, ⟨7, _⟩ => ⟨S6x1024x14336, .bf16⟩
  | .local _ .vmem, ⟨0, _⟩ => ⟨S1024x4096, .bf16⟩
  | .local _ .vmem, ⟨1, _⟩ => ⟨S1024x4096, .bf16⟩
  | .local _ .vmem, ⟨2, _⟩ => ⟨S2048x512, .i8⟩
  | .local _ .vmem, ⟨3, _⟩ => ⟨S2048x512, .i8⟩
  | .local _ .vmem, ⟨4, _⟩ => ⟨S32x512, .bf16⟩
  | .local _ .vmem, ⟨5, _⟩ => ⟨S32x512, .bf16⟩
  | .local _ .vmem, ⟨6, _⟩ => ⟨S2048x512, .i8⟩
  | .local _ .vmem, ⟨7, _⟩ => ⟨S2048x512, .i8⟩
  | .local _ .vmem, ⟨8, _⟩ => ⟨S32x512, .bf16⟩
  | .local _ .vmem, ⟨9, _⟩ => ⟨S32x512, .bf16⟩
  | .local _ .vmem, ⟨10, _⟩ => ⟨S1024x512, .bf16⟩
  | .local _ .vmem, ⟨11, _⟩ => ⟨S1024x512, .bf16⟩
  | .local _ .vmem, ⟨12, _⟩ => ⟨S4096x512, .bf16⟩
  | .local _ .vmem, ⟨13, _⟩ => ⟨S4096x512, .bf16⟩
  | _, _ => ⟨S6x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![28, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x1024x4096 : Shape := ⟨3, ![6, 1024, 4096]⟩
abbrev S2048x14336 : Shape := ⟨2, ![2048, 14336]⟩
abbrev S32x14336 : Shape := ⟨2, ![32, 14336]⟩
abbrev S6x1024x2048 : Shape := ⟨3, ![6, 1024, 2048]⟩
abbrev S_ : Shape := ⟨0, ![]⟩
abbrev S32x64x14336 : Shape := ⟨3, ![32, 64, 14336]⟩
abbrev S6x1024x14336 : Shape := ⟨3, ![6, 1024, 14336]⟩

abbrev nBuf : Space → Nat
  | .hbm => 66
  | .vmem => 0
  | .smem => 0
  | _ => 0

abbrev bufTy : (tb : Table) → Fin (tcTables nBuf tb) → BufTy
  | .hbm, ⟨0, _⟩ => ⟨S6x1024x4096, .bf16⟩
  | .hbm, ⟨1, _⟩ => ⟨S2048x14336, .i8⟩
  | .hbm, ⟨2, _⟩ => ⟨S32x14336, .bf16⟩
  | .hbm, ⟨3, _⟩ => ⟨S2048x14336, .i8⟩
  | .hbm, ⟨4, _⟩ => ⟨S32x14336, .bf16⟩
  | .hbm, ⟨5, _⟩ => ⟨S6x1024x2048, .bf16⟩
  | .hbm, ⟨6, _⟩ => ⟨S6x1024x2048, .bf16⟩
  | .hbm, ⟨7, _⟩ => ⟨S2048x14336, .i32⟩
  | .hbm, ⟨8, _⟩ => ⟨S_, .i32⟩
  | .hbm, ⟨9, _⟩ => ⟨S2048x14336, .i32⟩
  | .hbm, ⟨10, _⟩ => ⟨S2048x14336, .i32⟩
  | .hbm, ⟨11, _⟩ => ⟨S32x64x14336, .bf16⟩
  | .hbm, ⟨12, _⟩ => ⟨S2048x14336, .bf16⟩
  | .hbm, ⟨13, _⟩ => ⟨S2048x14336, .bf16⟩
  | .hbm, ⟨14, _⟩ => ⟨S_, .bf16⟩
  | .hbm, ⟨15, _⟩ => ⟨S2048x14336, .bf16⟩
  | .hbm, ⟨16, _⟩ => ⟨S2048x14336, .bf16⟩
  | .hbm, ⟨17, _⟩ => ⟨S2048x14336, .bf16⟩
  | .hbm, ⟨18, _⟩ => ⟨S_, .i32⟩
  | .hbm, ⟨19, _⟩ => ⟨S2048x14336, .i32⟩
  | .hbm, ⟨20, _⟩ => ⟨S2048x14336, .i32⟩
  | .hbm, ⟨21, _⟩ => ⟨S32x64x14336, .bf16⟩
  | .hbm, ⟨22, _⟩ => ⟨S2048x14336, .bf16⟩
  | .hbm, ⟨23, _⟩ => ⟨S2048x14336, .bf16⟩
  | .hbm, ⟨24, _⟩ => ⟨S_, .bf16⟩
  | .hbm, ⟨25, _⟩ => ⟨S2048x14336, .bf16⟩
  | .hbm, ⟨26, _⟩ => ⟨S2048x14336, .bf16⟩
  | .hbm, ⟨27, _⟩ => ⟨S2048x14336, .bf16⟩
  | .hbm, ⟨28, _⟩ => ⟨S6x1024x14336, .f32⟩
  | .hbm, ⟨29, _⟩ => ⟨S6x1024x14336, .f32⟩
  | .hbm, ⟨30, _⟩ => ⟨S6x1024x14336, .f32⟩
  | .hbm, ⟨31, _⟩ => ⟨S2048x14336, .i32⟩
  | .hbm, ⟨32, _⟩ => ⟨S_, .i32⟩
  | .hbm, ⟨33, _⟩ => ⟨S2048x14336, .i32⟩
  | .hbm, ⟨34, _⟩ => ⟨S2048x14336, .i32⟩
  | .hbm, ⟨35, _⟩ => ⟨S32x64x14336, .bf16⟩
  | .hbm, ⟨36, _⟩ => ⟨S2048x14336, .bf16⟩
  | .hbm, ⟨37, _⟩ => ⟨S2048x14336, .bf16⟩
  | .hbm, ⟨38, _⟩ => ⟨S_, .bf16⟩
  | .hbm, ⟨39, _⟩ => ⟨S2048x14336, .bf16⟩
  | .hbm, ⟨40, _⟩ => ⟨S2048x14336, .bf16⟩
  | .hbm, ⟨41, _⟩ => ⟨S2048x14336, .bf16⟩
  | .hbm, ⟨42, _⟩ => ⟨S_, .i32⟩
  | .hbm, ⟨43, _⟩ => ⟨S2048x14336, .i32⟩
  | .hbm, ⟨44, _⟩ => ⟨S2048x14336, .i32⟩
  | .hbm, ⟨45, _⟩ => ⟨S32x64x14336, .bf16⟩
  | .hbm, ⟨46, _⟩ => ⟨S2048x14336, .bf16⟩
  | .hbm, ⟨47, _⟩ => ⟨S2048x14336, .bf16⟩
  | .hbm, ⟨48, _⟩ => ⟨S_, .bf16⟩
  | .hbm, ⟨49, _⟩ => ⟨S2048x14336, .bf16⟩
  | .hbm, ⟨50, _⟩ => ⟨S2048x14336, .bf16⟩
  | .hbm, ⟨51, _⟩ => ⟨S2048x14336, .bf16⟩
  | .hbm, ⟨52, _⟩ => ⟨S6x1024x14336, .f32⟩
  | .hbm, ⟨53, _⟩ => ⟨S6x1024x14336, .f32⟩
  | .hbm, ⟨54, _⟩ => ⟨S6x1024x14336, .f32⟩
  | .hbm, ⟨55, _⟩ => ⟨S6x1024x14336, .f32⟩
  | .hbm, ⟨56, _⟩ => ⟨S6x1024x14336, .f32⟩
  | .hbm, ⟨57, _⟩ => ⟨S_, .f32⟩
  | .hbm, ⟨58, _⟩ => ⟨S6x1024x14336, .f32⟩
  | .hbm, ⟨59, _⟩ => ⟨S6x1024x14336, .f32⟩
  | .hbm, ⟨60, _⟩ => ⟨S_, .f32⟩
  | .hbm, ⟨61, _⟩ => ⟨S6x1024x14336, .f32⟩
  | .hbm, ⟨62, _⟩ => ⟨S6x1024x14336, .f32⟩
  | .hbm, ⟨63, _⟩ => ⟨S6x1024x14336, .f32⟩
  | .hbm, ⟨64, _⟩ => ⟨S6x1024x14336, .f32⟩
  | .hbm, ⟨65, _⟩ => ⟨S6x1024x14336, .bf16⟩
  | _, _ => ⟨S6x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Codes.lean ====
module
public import Idealize.ShloMosaic.Lib.Pointwise
@[expose] public section
set_option maxRecDepth 16384

/-! # What a packed byte means

A byte carries two four-bit weights, each stored with an offset of 8. This module says in plain arithmetic which
number each of the two fields stands for, and shows that the two ways of reading it agree with that: the bit trick
that builds a 16-bit float directly, and the mask or shift followed by an integer-to-float conversion. -/

noncomputable section
open Idealize.ShloMosaic
namespace Cert.Swiglu

/-- Field `p` of a packed byte: the low four bits for `p = 0`, the high four bits otherwise. -/
def field (c : BitVec 8) (p : ℕ) : ℕ := if p = 0 then c.toNat % 16 else c.toNat / 16

/-- The number that field `p` of a packed byte stands for: the field less its offset 8. -/
def level (c : BitVec 8) (p : ℕ) : EReal := (((field c p : ℝ) - 8 : ℝ) : EReal)

/-- The word built from a byte: its low field in the low half, its high field in the high half, each half having the
    upper bits `0x4300` of a `bf16` number set. -/
def spread (c : BitVec 8) : BitVec 32 :=
  ((c.setWidth 32 ||| c.setWidth 32 <<< 12) &&& 983055#32) ||| 1124090624#32

theorem field_lt (c : BitVec 8) (p : ℕ) : field c p < 16 := by
  unfold field; have := c.isLt; split <;> omega

/-- Half `p` of the word built from a byte is `0x4300 + field c p`. -/
theorem half_spread (c : BitVec 8) (p : ℕ) (hp : p < 2) :
    (spread c).extractLsb' (16 * p) 16 = BitVec.ofNat 16 (17152 + field c p) := by
  have key : ∀ n : Fin 256, ∀ q : Fin 2, (spread (BitVec.ofFin n)).extractLsb' (16 * q.val) 16
      = BitVec.ofNat 16 (17152 + field (BitVec.ofFin n) q.val) := by decide +kernel
  exact key c.toFin ⟨p, hp⟩

/-- The `bf16` number with bits `0x4300 + k` is `128 + k`, for a four-bit `k`. -/
theorem decode (k : ℕ) (hk : k < 16) :
    Ideal.ofBits .bf16 (BitVec.ofNat 16 (17152 + k)) = ((128 + k : ℝ) : EReal) := by
  interval_cases k <;>
    (simp [Ideal.ofBits, Ideal.ieee, -EReal.coe_mul, -EReal.coe_add] <;> norm_num)

/-- The bit trick reads field `p`: the float made of half `p`, less 136, is the field less 8. -/
theorem level_of_half (c : BitVec 8) (p : ℕ) (hp : p < 2) :
    Ideal.ofBits .bf16 ((spread c).extractLsb' (16 * p) 16) - Ideal.ofBits .bf16 17160#16 = level c p := by
  have h136 : Ideal.ofBits .bf16 17160#16 = ((136 : ℝ) : EReal) := by
    simp [Ideal.ofBits, Ideal.ieee, -EReal.coe_mul, -EReal.coe_add] <;> norm_num
  rw [half_spread c p hp, decode _ (field_lt c p), h136, level, ← EReal.coe_sub]
  congr 1; ring

/-- `8` as a `bf16` literal. -/
theorem eight : Ideal.ofBits .bf16 16640#16 = ((8 : ℝ) : EReal) := by
  simp [Ideal.ofBits, Ideal.ieee, -EReal.coe_mul, -EReal.coe_add] <;> norm_num

/-- Masking the byte with 15, converting and subtracting 8 reads the low field. -/
theorem level_of_mask (c : BitVec 8) :
    FloatOps.sitofp (F := Ideal) .bf16 (IntOp.andi (c.setWidth 32) 15#32) - Ideal.ofBits .bf16 16640#16
      = level c 0 := by
  have key : ∀ n : Fin 256, (IntOp.andi ((BitVec.ofFin n : BitVec 8).setWidth 32) 15#32).toInt
      = (field (BitVec.ofFin n) 0 : ℤ) := by decide +kernel
  have hc := key c.toFin
  rw [eight, level, EReal.coe_sub]
  congr 1
  show (((IntOp.andi (c.setWidth 32) 15#32).toInt : ℝ) : EReal) = _
  rw [show (IntOp.andi (c.setWidth 32) 15#32).toInt = (field c 0 : ℤ) from hc]
  norm_cast

/-- Shifting the byte right by 4, converting and subtracting 8 reads the high field. -/
theorem level_of_shift (c : BitVec 8) :
    FloatOps.sitofp (F := Ideal) .bf16 (IntOp.shrsi .host (c.setWidth 32) 4#32) - Ideal.ofBits .bf16 16640#16
      = level c 1 := by
  have key : ∀ n : Fin 256, (IntOp.shrsi .host ((BitVec.ofFin n : BitVec 8).setWidth 32) 4#32).toInt
      = (field (BitVec.ofFin n) 1 : ℤ) := by decide +kernel
  have hc := key c.toFin
  rw [eight, level, EReal.coe_sub]
  congr 1
  show (((IntOp.shrsi .host (c.setWidth 32) 4#32).toInt : ℝ) : EReal) = _
  rw [show (IntOp.shrsi .host (c.setWidth 32) 4#32).toInt = (field c 1 : ℤ) from hc]
  norm_cast

end Cert.Swiglu
-- ==== Proof.Spec.lean ====
module
public import proofs.«01_k».proof.Proof.Codes
@[expose] public section
set_option maxRecDepth 16384

/-! # One element of the result, in plain mathematics

An element of the result depends on one row of the activations and on one column of each packed matrix and of its
scales. This module states that element without shapes, tiles or memory. -/

noncomputable section
open Idealize.ShloMosaic
namespace Cert.Swiglu

/-- Weight `k` of a column: field `k % 2` of packed byte `k / 2`, times the scale of the group `k / 128`. -/
def weight (c : Fin 2048 → BitVec 8) (s : Fin 32 → EReal) (k : Fin 4096) : EReal :=
  level (c ⟨k.val / 2, by omega⟩) (k.val % 2) * s ⟨k.val / 128, by omega⟩

/-- A row of activations times a column of weights. -/
def proj (x : Fin 4096 → EReal) (c : Fin 2048 → BitVec 8) (s : Fin 32 → EReal) : EReal :=
  ∑ k : Fin 4096, x k * weight c s k

/-- The gate through its SiLU, times the up projection. -/
def gated (g u : EReal) : EReal := g * Ideal.logistic g * u

/-- A sum over `2 n` terms is the sum of its even terms plus the sum of its odd terms. -/
theorem sum_even_odd {N n : ℕ} (hN : N = n * 2) (f : Fin N → EReal) :
    ∑ k : Fin N, f k
      = ∑ r : Fin n, f ⟨2 * r.val, by omega⟩ + ∑ r : Fin n, f ⟨1 + 2 * r.val, by omega⟩ := by
  subst hN
  rw [← Equiv.sum_comp (finProdFinEquiv (m := n) (n := 2)) f, Fintype.sum_prod_type, ← Finset.sum_add_distrib]
  refine Finset.sum_congr rfl fun r _ => ?_
  rw [Fin.sum_univ_two]
  congr 2 <;> (apply Fin.ext; simp [finProdFinEquiv])

/-- The projection as two half-length sums: the even activations meet the low fields, the odd ones the high fields;
    packed byte `r` belongs to the group `r / 64`. -/
theorem proj_even_odd (x : Fin 4096 → EReal) (c : Fin 2048 → BitVec 8) (s : Fin 32 → EReal) :
    proj x c s
      = ∑ r : Fin 2048, x ⟨2 * r.val, by omega⟩ * (level (c r) 0 * s ⟨r.val / 64, by omega⟩)
        + ∑ r : Fin 2048, x ⟨1 + 2 * r.val, by omega⟩ * (level (c r) 1 * s ⟨r.val / 64, by omega⟩) := by
  have h : ∀ (r : Fin 2048) (p k : ℕ) (hk : k < 4096), k / 2 = r.val → k % 2 = p → k / 128 = r.val / 64 →
      weight c s ⟨k, hk⟩ = level (c r) p * s ⟨r.val / 64, by omega⟩ := by
    intro r p k hk h1 h2 h3
    exact congrArg₂ (· * ·) (congrArg₂ level (congrArg c (Fin.ext h1)) h2) (congrArg s (Fin.ext h3))
  refine (sum_even_odd (n := 2048) (by norm_num) fun k => x k * weight c s k).trans (congrArg₂ (· + ·) ?_ ?_)
  · exact Finset.sum_congr rfl fun r _ =>
      congrArg (x _ * ·) (h r 0 (2 * r.val) (by omega) (by omega) (by omega) (by omega))
  · exact Finset.sum_congr rfl fun r _ =>
      congrArg (x _ * ·) (h r 1 (1 + 2 * r.val) (by omega) (by omega) (by omega) (by omega))

end Cert.Swiglu
-- ==== Proof.Block.lean ====
module
public import proofs.«01_k».proof.Proof.Gen.KernelIdeal.Skeleton
public import proofs.«01_k».proof.Proof.Spec
public import Idealize.ShloMosaic.Lib.BitcastPair
@[expose] public section
set_option maxRecDepth 16384

/-! # What one block of the kernel computes

The dequantised block held in scratch, read at an index, and the output block made from it. -/

noncomputable section
open Idealize.ShloMosaic Idealize.ShloMosaic.TcCoe
namespace Cert.KernelIdeal.Value
open Cert.KernelIdeal Cert.KernelIdeal.Gen Cert.Swiglu

/-- Row `k` of the 16-bit view of the words lies in word row `k / 2`, in the same column. -/
theorem src (k : Fin 4096) (n : Fin 512) (h) :
    bitcasts_S2048x512_w32_S4096x512_w16.srcIdx (ix2 k n) (S4096x512.row (ix2 k n) / 2) h
      = ix2 ⟨k.val / 2, by omega⟩ n := by
  funext a
  match a with
  | ⟨0, _⟩ => rfl
  | ⟨1, _⟩ => rfl

/-- The half of the word that row `k` reads is half `k % 2` of the word built from packed byte `k / 2`. -/
theorem half (C : Vec Ideal S2048x512 .i8) (k : Fin 4096) (n : Fin 512) :
    BitVec.extractLsb' (16 * (S4096x512.row (ix2 k n) % 2)) 16
        (ori (andi (ori (extui 32 C natLt_8_32) (shli (extui 32 C natLt_8_32) (broadcast S2048x512 12#32)))
            (broadcast S2048x512 983055#32)) (broadcast S2048x512 1124090624#32) (ix2 ⟨k.val / 2, by omega⟩ n))
      = (spread (C (ix2 ⟨k.val / 2, by omega⟩ n))).extractLsb' (16 * (k.val % 2)) 16 := rfl

/-- The gate block in scratch: row `k` holds field `k % 2` of packed row `k / 2`, scaled by group `k / 128`. -/
theorem gate_block (C : Vec Ideal S2048x512 .i8) (S : Vec Ideal S32x512 .bf16) (k : Fin 4096) (n : Fin 512) :
    k0_pay3 (F := Ideal) C S (ix2 k n) = weight (fun r => C (ix2 r n)) (fun r => S (ix2 r n)) k := by
  pointwise [k0_pay3]
  simp only [bitcast_32_16, src]
  unfold weight
  congr 1
  rw [← level_of_half _ (k.val % 2) (by omega)]
  exact congrArg (· - _) (congrArg _ (half C k n))

/-- The up block in scratch is made by the same formula as the gate block. -/
theorem up_block (C : Vec Ideal S2048x512 .i8) (S : Vec Ideal S32x512 .bf16) :
    k0_pay1 (F := Ideal) (k0_pay4 C S) = k0_pay3 C S := by
  dsimp only [k0_pay1, k0_pay4, k0_pay3]

/-- The output block at an index: the gated product of the two projections of one row of activations. -/
theorem out_block (X : Vec Ideal S1024x4096 .bf16) (C C' : Vec Ideal S2048x512 .i8) (S S' : Vec Ideal S32x512 .bf16)
    (a : Fin 1024) (n : Fin 512) :
    k0_pay2 (F := Ideal) X (k0_pay3 C S) X (k0_pay3 C' S') (ix2 a n)
      = gated (proj (fun k => X (ix2 a k)) (fun r => C (ix2 r n)) (fun r => S (ix2 r n)))
          (proj (fun k => X (ix2 a k)) (fun r => C' (ix2 r n)) (fun r => S' (ix2 r n))) := by
  pointwise [k0_pay2]
  simp only [gate_block, gated, proj]

end Cert.KernelIdeal.Value
-- ==== Proof.Points.lean ====
module
public import proofs.«01_k».proof.Proof.Gen.KernelIdeal.Frame
public import proofs.«01_k».proof.Proof.Block
public import Idealize.ShloMosaic.Lib.Pipeline.ValueKit
public import Idealize.ShloMosaic.Lib.Pipeline.ReadBack
public import Idealize.ShloMosaic.Lib.Pipeline.ValueKit.Held
@[expose] public section
set_option maxRecDepth 16384

/-! # What the buffers hold after each grid point

The grid visits 28 column blocks, and for each of them 6 row blocks. The first visit to a column block dequantises
both weight blocks into scratch; the other five read them there. -/

noncomputable section
open Idealize.ShloMosaic Idealize.ShloMosaic.TcCoe Idealize.SL.Sem
namespace Cert.KernelIdeal.Value
open Cert.KernelIdeal Cert.KernelIdeal.Gen Cert.Swiglu

variable (m : (ℓ : Loc nD τ sig) → Buf (Elt Ideal) ℓ)

/-- The first visit to a column block writes the gate block. -/
theorem gate_first (c : Dev nD) (t : Fin cfg0.N) (h : t.val % 6 = 0) :
    (outsAt0 m c t.val t.isLt).2.1 = k0_pay3 (iblk m c 1 t) (iblk m c 2 t) := by
  rw [outsAt0_A m c t h]
  frame_out

/-- The other visits leave the gate block as it was. -/
theorem gate_next (c : Dev nD) (t : Fin cfg0.N) (h : ¬t.val % 6 = 0) :
    (outsAt0 m c t.val t.isLt).2.1
      = (outsAt0 m c (t.val - 1) (Nat.lt_of_le_of_lt (Nat.sub_le _ _) t.isLt)).2.1 := by
  rw [outsAt0_B m c t h]
  rfl

/-- The first visit to a column block writes the up block. -/
theorem up_first (c : Dev nD) (t : Fin cfg0.N) (h : t.val % 6 = 0) :
    (outsAt0 m c t.val t.isLt).2.2 = k0_pay3 (iblk m c 3 t) (iblk m c 4 t) := by
  rw [outsAt0_A m c t h, ← up_block]
  frame_out

/-- The other visits leave the up block as it was. -/
theorem up_next (c : Dev nD) (t : Fin cfg0.N) (h : ¬t.val % 6 = 0) :
    (outsAt0 m c t.val t.isLt).2.2
      = (outsAt0 m c (t.val - 1) (Nat.lt_of_le_of_lt (Nat.sub_le _ _) t.isLt)).2.2 := by
  rw [outsAt0_B m c t h]
  rfl

/-- The output block of any visit is made from the activations and from what scratch holds after it. -/
theorem out_eq (c : Dev nD) (t : Fin cfg0.N) :
    (outsAt0 m c t.val t.isLt).1
      = k0_pay2 (iblk m c 0 t) (outsAt0 m c t.val t.isLt).2.1 (iblk m c 0 t) (outsAt0 m c t.val t.isLt).2.2 := by
  by_cases h : t.val % 6 = 0
  · rw [gate_first m c t h, up_first m c t h, outsAt0_A m c t h]
    frame_out
    rw [up_block]
  · rw [gate_next m c t h, up_next m c t h, outsAt0_B m c t h]
    frame_out
    exact congrArg₂ (fun a b => k0_pay2 (iblk m c 0 t) a (iblk m c 0 t) b)
      (read_unread_whole cc0_scratch0 _ _) (read_unread_whole cc0_scratch1 _ _)

/-- Which block each window shows at each point: the row block is `t % 6`, the column block `t / 6`. -/
theorem idx : ∀ t : Fin cfg0.N, win0_0.index t = ![t.val % 6, 0] ∧ win0_1.index t = ![0, t.val / 6]
    ∧ win0_2.index t = ![0, t.val / 6] ∧ win0_3.index t = ![0, t.val / 6] ∧ win0_4.index t = ![0, t.val / 6]
    ∧ win0_5.index t = ![t.val % 6, t.val / 6] :=
  (by decide +kernel : ∀ t : Fin grid0.N, _)

end Cert.KernelIdeal.Value
-- ==== Proof.Array.lean ====
module
public import proofs.«01_k».proof.Proof.Points
@[expose] public section
set_option maxRecDepth 16384

/-! # What the output array holds when the grid is done

Each grid point writes one block of the array of 6144 rows and 14336 columns; every element of it is the gated product
of the two projections of its row and column. -/

noncomputable section
open Idealize.ShloMosaic Idealize.ShloMosaic.TcCoe Idealize.SL.Sem
namespace Cert.KernelIdeal.Value
open Cert.KernelIdeal Cert.KernelIdeal.Gen Cert.Swiglu

variable (m : (ℓ : Loc nD τ sig) → Buf (Elt Ideal) ℓ)

/-- The element of the result for token `s` of sequence `b` and output column `n`, from the arguments. -/
def element (c : Dev nD) (b : Fin 6) (s : Fin 1024) (n : Fin 14336) : EReal :=
  gated
    (proj (fun k => m ((c : Thread nD τ).loc main_arg0) (ix3 b s k))
      (fun r => m ((c : Thread nD τ).loc main_arg1) (ix2 r n)) (fun r => m ((c : Thread nD τ).loc main_arg2) (ix2 r n)))
    (proj (fun k => m ((c : Thread nD τ).loc main_arg0) (ix3 b s k))
      (fun r => m ((c : Thread nD τ).loc main_arg3) (ix2 r n)) (fun r => m ((c : Thread nD τ).loc main_arg4) (ix2 r n)))

/-- The output array: row `1024 b + s` holds the elements of token `s` of sequence `b`. -/
def REF (c : Dev nD) : S6144x14336.Idx → EReal := fun j =>
  element m c ⟨(j 0).val / 1024, by have h : (j 0).val < 6144 := (j 0).isLt; omega⟩ ⟨(j 0).val % 1024, by omega⟩ (j 1)

/-- The output array at row `1024 b + a`. -/
theorem REF_at (c : Dev nD) (b : Fin 6) (a : Fin 1024) (p : Fin 6144) (hp : p.val = b.val * 1024 + a.val)
    (q : Fin 14336) : REF m c (ix2 p q) = element m c b a q := by
  have e1 : p.val / 1024 = b.val := by omega
  have e2 : p.val % 1024 = a.val := by omega
  exact congrArg₂ (fun b a => element m c b a q) (Fin.ext e1) (Fin.ext e2)

/-- The activations as the grid finds them: the argument with its first two axes flattened. -/
theorem entry (c : Dev nD) : V m c main_v0
    = shapeCast S6144x4096 (m ((c : Thread nD τ).loc main_arg0)) shapeCasts_S6x1024x4096_S6144x4096 := by
  unfold V V0 hostOps0
  rfl

/-- Row `1024 b + a` of the flattened activations is token `a` of sequence `b`. -/
theorem flat_row (x : S6x1024x4096.Idx → EReal) (b : Fin 6) (a : Fin 1024) (k : Fin 4096) (p : Fin 6144)
    (hp : p.val = b.val * 1024 + a.val) :
    shapeCast S6144x4096 x shapeCasts_S6x1024x4096_S6144x4096 (ix2 p k) = x (ix3 b a k) := by
  pointwise
  blk_ext

/-- Where the activations' block of a point lies in their array. -/
theorem emb0 (t : Fin cfg0.N) (a : Fin 1024) (k : Fin 4096) (p : Fin 6144) (hp : p.val = t.val % 6 * 1024 + a.val) :
    (win0_0.blk t).view.emb (ix2 a k) = ix2 p k := by
  blk_ext [idx t]

/-- Where the output block of a point lies in its array. -/
theorem emb5 (t : Fin cfg0.N) (a : Fin 1024) (n : Fin 512) (p : Fin 6144) (hp : p.val = t.val % 6 * 1024 + a.val)
    (q : Fin 14336) (hq : q.val = t.val / 6 * 512 + n.val) :
    (win0_5.blk t).view.emb (ix2 a n) = ix2 p q := by
  blk_ext [idx t]

/-- The activations seen at a point: the rows of sequence `t % 6`. -/
theorem read0 (c : Dev nD) (t : Fin cfg0.N) (b : Fin 6) (hb : b.val = t.val % 6) (a : Fin 1024) (k : Fin 4096) :
    iblk m c 0 t (ix2 a k) = m ((c : Thread nD τ).loc main_arg0) (ix3 b a k) := by
  have hp : t.val % 6 * 1024 + a.val < 6144 := by omega
  refine Eq.trans ?_ (flat_row (m ((c : Thread nD τ).loc main_arg0)) b a k ⟨t.val % 6 * 1024 + a.val, hp⟩ (by rw [hb]))
  rw [← entry m c, ← emb0 t a k ⟨t.val % 6 * 1024 + a.val, hp⟩ rfl]
  rfl

/-- The packed gate bytes seen at a point: the columns of block `t / 6`. -/
theorem read1 (c : Dev nD) (t : Fin cfg0.N) (n : Fin 512) (q : Fin 14336) (hq : q.val = t.val / 6 * 512 + n.val)
    (r : Fin 2048) : iblk m c 1 t (ix2 r n) = m ((c : Thread nD τ).loc main_arg1) (ix2 r q) := by
  blk_ext [iblk, V, idx t]

/-- The gate scales seen at a point. -/
theorem read2 (c : Dev nD) (t : Fin cfg0.N) (n : Fin 512) (q : Fin 14336) (hq : q.val = t.val / 6 * 512 + n.val)
    (r : Fin 32) : iblk m c 2 t (ix2 r n) = m ((c : Thread nD τ).loc main_arg2) (ix2 r q) := by
  blk_ext [iblk, V, idx t]

/-- The packed up bytes seen at a point. -/
theorem read3 (c : Dev nD) (t : Fin cfg0.N) (n : Fin 512) (q : Fin 14336) (hq : q.val = t.val / 6 * 512 + n.val)
    (r : Fin 2048) : iblk m c 3 t (ix2 r n) = m ((c : Thread nD τ).loc main_arg3) (ix2 r q) := by
  blk_ext [iblk, V, idx t]

/-- The up scales seen at a point. -/
theorem read4 (c : Dev nD) (t : Fin cfg0.N) (n : Fin 512) (q : Fin 14336) (hq : q.val = t.val / 6 * 512 + n.val)
    (r : Fin 32) : iblk m c 4 t (ix2 r n) = m ((c : Thread nD τ).loc main_arg4) (ix2 r q) := by
  blk_ext [iblk, V, idx t]

/-- The gate block in scratch after any point is the one made at the first visit to its column block. -/
theorem gate_held (c : Dev nD) (t : Fin cfg0.N) :
    (outsAt0 m c t.val t.isLt).2.1 = k0_pay3 (iblk m c 1 ⟨6 * (t.val / 6), Pipeline.run_start_lt t⟩)
      (iblk m c 2 ⟨6 * (t.val / 6), Pipeline.run_start_lt t⟩) :=
  Pipeline.eq_of_write_hold (fun n h => (outsAt0 m c n h).2.1) 6 (fun t => k0_pay3 (iblk m c 1 t) (iblk m c 2 t))
    (gate_first m c) (gate_next m c) t

/-- The up block in scratch after any point is the one made at the first visit to its column block. -/
theorem up_held (c : Dev nD) (t : Fin cfg0.N) :
    (outsAt0 m c t.val t.isLt).2.2 = k0_pay3 (iblk m c 3 ⟨6 * (t.val / 6), Pipeline.run_start_lt t⟩)
      (iblk m c 4 ⟨6 * (t.val / 6), Pipeline.run_start_lt t⟩) :=
  Pipeline.eq_of_write_hold (fun n h => (outsAt0 m c n h).2.2) 6 (fun t => k0_pay3 (iblk m c 3 t) (iblk m c 4 t))
    (up_first m c) (up_next m c) t

/-- The output block of a point, read at an index. -/
theorem point (c : Dev nD) (t : Fin cfg0.N) (a : Fin 1024) (n : Fin 512) (b : Fin 6) (hb : b.val = t.val % 6)
    (q : Fin 14336) (hq : q.val = t.val / 6 * 512 + n.val) :
    (outsAt0 m c t.val t.isLt).1 (ix2 a n) = element m c b a q := by
  have hq' : q.val = 6 * (t.val / 6) / 6 * 512 + n.val := by omega
  rw [out_eq, gate_held, up_held]
  refine (out_block _ _ _ _ _ a n).trans ?_
  unfold element
  rw [funext (read0 m c t b hb a), funext (read1 m c ⟨6 * (t.val / 6), Pipeline.run_start_lt t⟩ n q hq'),
    funext (read2 m c ⟨6 * (t.val / 6), Pipeline.run_start_lt t⟩ n q hq'),
    funext (read3 m c ⟨6 * (t.val / 6), Pipeline.run_start_lt t⟩ n q hq'),
    funext (read4 m c ⟨6 * (t.val / 6), Pipeline.run_start_lt t⟩ n q hq')]

/-- The output array after the last point. -/
theorem final (c : Dev nD) : (dats m 0 c).arrAt 5 (cfgs 0).N = REF m c := by
  refine (dats m 0 c).arrAt_eq_of_covers 5 _ (by decide +kernel) fun t _ y => ?_
  have ht : t.val < 168 := lt_of_lt_of_eq t.isLt N_0
  idx_vars y
  have hp : t.val % 6 * 1024 + y0.val < 6144 := by omega
  have hq : t.val / 6 * 512 + y1.val < 14336 := by omega
  have e := emb5 t y0 y1 ⟨_, hp⟩ rfl ⟨_, hq⟩ rfl
  blk_simp
  rw [after0_5]
  refine Eq.trans ?_ (congrArg (REF m c) e).symm
  have h6 : t.val % 6 < 6 := by omega
  exact (point m c t y0 y1 ⟨_, h6⟩ rfl ⟨_, hq⟩ rfl).trans (REF_at m c ⟨_, h6⟩ y0 ⟨_, hp⟩ rfl ⟨_, hq⟩).symm

end Cert.KernelIdeal.Value
-- ==== Proof.Run.lean ====
module
public import proofs.«01_k».proof.Proof.Array
@[expose] public section
set_option maxRecDepth 16384

/-! # What the kernel returns

The program returns the output array with its rows split again into sequences and tokens. -/

noncomputable section
open Idealize.ShloMosaic Idealize.ShloMosaic.TcCoe Idealize.SL.Sem
namespace Cert.KernelIdeal.Value
open Cert.KernelIdeal Cert.KernelIdeal.Gen Cert.Swiglu

variable (m : (ℓ : Loc nD τ sig) → Buf (Elt Ideal) ℓ) (ρ : Dev nD → PrngReg)

/-- The kernel's result, element by element. -/
def result (c : Dev nD) : S6x1024x14336.Idx → EReal := fun j => element m c (j 0) (j 1) (j 2)

/-- The output array with its rows split is the result. -/
theorem split_rows (c : Dev nD) :
    shapeCast S6x1024x14336 (REF m c) shapeCasts_S6144x14336_S6x1024x14336 = result m c := by
  funext j
  idx_vars j
  have hp : j0.val * 1024 + j1.val < 6144 := by omega
  refine Eq.trans ?_ (REF_at m c j0 j1 ⟨_, hp⟩ rfl j2)
  pointwise
  blk_ext

/-- The returned buffer holds the result. -/
theorem returned (c : Dev nD) :
    Pipeline.afterTail₀ cfgs (dats m) 0 (V0 m) [hostOps1] c main_v2 = result m c := by
  have h1 : Pipeline.afterTail₀ cfgs (dats m) 0 (V0 m) [hostOps1] c main_v2
      = shapeCast S6x1024x14336 (Pipeline.withArrays (cfgs 0).spec c (V0 m c)
          (fun w => (dats m 0 c).arrAt w (cfgs 0).N) (Proc.devRef .tc main_v1)) shapeCasts_S6144x14336_S6x1024x14336 := by
    unfold Pipeline.afterTail₀ hostOps1
    rfl
  have h2 : Pipeline.withArrays (cfgs 0).spec c (V0 m c) (fun w => (dats m 0 c).arrAt w (cfgs 0).N)
      (Proc.devRef .tc main_v1) = (dats m 0 c).arrAt 5 (cfgs 0).N :=
    Pipeline.withArrays_arr spec0 launch0.win.arr_inj c (V0 m c) (fun w => (dats m 0 c).arrAt w (cfgs 0).N) 5
  rw [h1, h2, final m c, split_rows m c]

/-- The kernel's run: it ends with the result in the returned buffer and its arguments as they were. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv : θ_run defs (onTc (τ := τ) (main (F := Ideal))) ⟨m, fun _ => 0, ρ⟩ (fun r => ∀ c : Dev nD,
      r.2.mem ((c.tc : Thread nD τ).loc main_v2) = result m c) :=
    (θ_run defs _ _).mono (fun _ h c =>
      ((h c).2 main_v2 (Pipeline.mem_restRefs_of main_v2 (by decide) (by decide))).trans (returned m c)) (run_main m ρ)
  exact (θ_run defs _ _).mono (fun _ h c => ⟨h.1 c, h.2 c⟩) (θ_run_and hv (unchanged m ρ))

end Cert.KernelIdeal.Value
-- ==== Proof.Reference.lean ====
module
public import proofs.«01_k».proof.Proof.Gen.ReferenceIdeal.Read
public import proofs.«01_k».proof.Proof.Spec
@[expose] public section
set_option maxRecDepth 16384

/-! # What the reference computes

The reference's result, read at an index, is the gated product of the two projections. -/

noncomputable section
open Idealize.ShloMosaic Idealize.ShloMosaic.TcCoe
namespace Cert.ReferenceIdeal.Value
open Cert.ReferenceIdeal Cert.ReferenceIdeal.Read Cert.Swiglu

variable (x0 : BufTy.Contents (Elt Ideal) { shape := S6x1024x4096, elt := EltTy.bf16 })
  (x1 : BufTy.Contents (Elt Ideal) { shape := S2048x14336, elt := EltTy.i8 })
  (x2 : BufTy.Contents (Elt Ideal) { shape := S32x14336, elt := EltTy.bf16 })
  (x3 : BufTy.Contents (Elt Ideal) { shape := S2048x14336, elt := EltTy.i8 })
  (x4 : BufTy.Contents (Elt Ideal) { shape := S32x14336, elt := EltTy.bf16 })

/-- The gate's low-field weights. -/
theorem gate_low (r : Fin 2048) (n : Fin 14336) :
    val_main_v10 (F := Ideal) x1 x2 (ix2 r n) = level (x1 (ix2 r n)) 0 * x2 (ix2 ⟨r.val / 64, by omega⟩ n) := by
  unfold val_main_v10 val_main_v9 val_main_v8 val_main_v7 val_main_v6 val_main_v5 val_main_v4 val_main_v3 val_main_v2
    val_main_cst val_main_c
  pointwise []
  rw [← level_of_mask]

/-- The gate's high-field weights. -/
theorem gate_high (r : Fin 2048) (n : Fin 14336) :
    val_main_v18 (F := Ideal) x1 x2 (ix2 r n) = level (x1 (ix2 r n)) 1 * x2 (ix2 ⟨r.val / 64, by omega⟩ n) := by
  unfold val_main_v18 val_main_v17 val_main_v16 val_main_v15 val_main_v14 val_main_v13 val_main_v12 val_main_v11
    val_main_cst_1 val_main_c_0 val_main_v2
  pointwise []
  rw [← level_of_shift]

/-- The gate projection. -/
theorem gate_proj (b : Fin 6) (s : Fin 1024) (n : Fin 14336) :
    val_main_v21 (F := Ideal) x0 x1 x2 (ix3 b s n)
      = proj (fun k => x0 (ix3 b s k)) (fun r => x1 (ix2 r n)) (fun r => x2 (ix2 r n)) := by
  unfold val_main_v21 val_main_v20 val_main_v19 val_main_v0 val_main_v1
  pointwise []
  simp only [gate_low, gate_high]
  rw [proj_even_odd]

/-- The up projection: the same formula on the other packed matrix. -/
theorem up_proj (b : Fin 6) (s : Fin 1024) (n : Fin 14336) :
    val_main_v41 (F := Ideal) x0 x3 x4 (ix3 b s n)
      = proj (fun k => x0 (ix3 b s k)) (fun r => x3 (ix2 r n)) (fun r => x4 (ix2 r n)) :=
  gate_proj x0 x3 x4 b s n

/-- The reference's result at an index. -/
theorem result_apply (b : Fin 6) (s : Fin 1024) (n : Fin 14336) :
    val_main_v44 (F := Ideal) x0 x1 x2 x3 x4 (ix3 b s n)
      = gated (proj (fun k => x0 (ix3 b s k)) (fun r => x1 (ix2 r n)) (fun r => x2 (ix2 r n)))
          (proj (fun k => x0 (ix3 b s k)) (fun r => x3 (ix2 r n)) (fun r => x4 (ix2 r n))) := by
  unfold val_main_v44 val_main_v43 val_main_v42 val_main_call0_v5 val_main_call0_v4 val_main_call0_v3
    val_main_call0_v2 val_main_call0_v1 val_main_call0_v0 val_main_call0_cst val_main_call0_cst_0
  pointwise []
  rw [gate_proj, up_proj]
  rfl

end Cert.ReferenceIdeal.Value
-- ==== Proof.Equation.lean ====
module
public import proofs.«01_k».proof.Proof.Run
public import proofs.«01_k».proof.Proof.Reference
public import proofs.«01_k».proof.Defs
public import Idealize.ShloMosaic.Lib.Quiescent
@[expose] public section
set_option maxRecDepth 16384

/-! # The equation: kernel and reference return the same array -/

noncomputable section
open Idealize.ShloMosaic Idealize.ShloMosaic.TcCoe Idealize.SL.Sem
namespace Cert.Swiglu

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- On equal arguments the reference's result is the kernel's. -/
theorem results_equal (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4)) :
    ReferenceIdeal.Value.res_main_v44 m' c = KernelIdeal.Value.result m c := by
  rw [ReferenceIdeal.Read.val_main_v44_eq, h0, h1, h2, h3, h4]
  funext j
  idx_vars j
  exact ReferenceIdeal.Value.result_apply _ _ _ _ _ j0 j1 j2

/-- The value claim: both programs run, and return the same array. -/
theorem value : Cert.algebraic_KernelIdeal_ReferenceIdeal (hKernelIdeal := Cert.KernelIdeal.Gen.facts)
    (hReferenceIdeal := Cert.ReferenceIdeal.Gen.facts) := fun m g m' g' _ hagree =>
  ⟨KernelIdeal.Value.result m, KernelIdeal.Value.run m g,
    (θ_run _ _ _).mono (fun _ h c => ⟨(h c).1.trans (results_equal m m' c (hagree c).1 (hagree c).2.1 (hagree c).2.2.1
      (hagree c).2.2.2.1 (hagree c).2.2.2.2), (h c).2⟩) (ReferenceIdeal.Value.run m' g')⟩

/-- The reference runs, leaves its arguments alone, and has no counter that could end nonzero. -/
theorem reference_frame :
    Cert.quiescent_ReferenceIdeal (hReferenceIdeal := Cert.ReferenceIdeal.Gen.facts) := fun m g _ =>
  (θ_run _ _ _).mono (fun _ h => ⟨fun c => (h c).2, sem_eq_zero_of_no_sems (by decide) _⟩)
    (ReferenceIdeal.Value.run m g)

end Cert.Swiglu
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the three programs run to the end, leave their arguments alone and end with every counter at
    zero; the kernel read over the extended reals is the kernel itself; and it returns what the reference returns. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Swiglu.reference_frame,
  trivial, Cert.Swiglu.value⟩

end Cert.Proof

end
